-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x5120 : Shape := ⟨3, ![8, 1, 5120]⟩
abbrev S2560x27648 : Shape := ⟨2, ![2560, 27648]⟩
abbrev S40x27648 : Shape := ⟨2, ![40, 27648]⟩
abbrev S8x5120 : Shape := ⟨2, ![8, 5120]⟩
abbrev S_ : Shape := ⟨0, ![]⟩
abbrev S16x5120 : Shape := ⟨2, ![16, 5120]⟩
abbrev S8x27648 : Shape := ⟨2, ![8, 27648]⟩
abbrev S2560x1024 : Shape := ⟨2, ![2560, 1024]⟩
abbrev S40x1024 : Shape := ⟨2, ![40, 1024]⟩
abbrev S8x1024 : Shape := ⟨2, ![8, 1024]⟩
abbrev S64x1024 : Shape := ⟨2, ![64, 1024]⟩
abbrev S16x1024 : Shape := ⟨2, ![16, 1024]⟩
abbrev S64x1x1024 : Shape := ⟨3, ![64, 1, 1024]⟩
abbrev S64x2x1024 : Shape := ⟨3, ![64, 2, 1024]⟩
abbrev S128x1024 : Shape := ⟨2, ![128, 1024]⟩
abbrev S1x1024 : Shape := ⟨2, ![1, 1024]⟩
abbrev S256x1024 : Shape := ⟨2, ![256, 1024]⟩
abbrev S16x256 : Shape := ⟨2, ![16, 256]⟩
abbrev S8x1x27648 : Shape := ⟨3, ![8, 1, 27648]⟩

abbrev nBuf : Space → Nat
  | .hbm => 9
  | .vmem => 7
  | .smem => 0
  | _ => 0

abbrev bufTy : (tb : Table) → Fin (tcTables nBuf tb) → BufTy
  | .hbm, ⟨0, _⟩ => ⟨S8x1x5120, .bf16⟩
  | .hbm, ⟨1, _⟩ => ⟨S2560x27648, .i8⟩
  | .hbm, ⟨2, _⟩ => ⟨S40x27648, .bf16⟩
  | .hbm, ⟨3, _⟩ => ⟨S8x5120, .bf16⟩
  | .hbm, ⟨4, _⟩ => ⟨S_, .i32⟩
  | .hbm, ⟨5, _⟩ => ⟨S_, .bf16⟩
  | .hbm, ⟨6, _⟩ => ⟨S16x5120, .bf16⟩
  | .hbm, ⟨7, _⟩ => ⟨S8x27648, .bf16⟩
  | .hbm, ⟨8, _⟩ => ⟨S8x1x27648, .bf16⟩
  | .local _ .vmem, ⟨0, _⟩ => ⟨S16x5120, .bf16⟩
  | .local _ .vmem, ⟨1, _⟩ => ⟨S2560x1024, .i8⟩
  | .local _ .vmem, ⟨2, _⟩ => ⟨S2560x1024, .i8⟩
  | .local _ .vmem, ⟨3, _⟩ => ⟨S40x1024, .bf16⟩
  | .local _ .vmem, ⟨4, _⟩ => ⟨S40x1024, .bf16⟩
  | .local _ .vmem, ⟨5, _⟩ => ⟨S8x1024, .bf16⟩
  | .local _ .vmem, ⟨6, _⟩ => ⟨S8x1024, .bf16⟩
  | _, _ => ⟨S8x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![27], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2560x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S40x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8x1x5120 : Shape := ⟨3, ![8, 1, 5120]⟩
abbrev S2560x27648 : Shape := ⟨2, ![2560, 27648]⟩
abbrev S40x27648 : Shape := ⟨2, ![40, 27648]⟩
abbrev S_ : Shape := ⟨0, ![]⟩
abbrev S40x64x27648 : Shape := ⟨3, ![40, 64, 27648]⟩
abbrev S40x1x27648 : Shape := ⟨3, ![40, 1, 27648]⟩
abbrev S8x1x2560 : Shape := ⟨3, ![8, 1, 2560]⟩
abbrev S8x1x40x64 : Shape := ⟨4, ![8, 1, 40, 64]⟩
abbrev S8x1x27648 : Shape := ⟨3, ![8, 1, 27648]⟩

abbrev nBuf : Space → Nat
  | .hbm => 34
  | .vmem => 0
  | .smem => 0
  | _ => 0

abbrev bufTy : (tb : Table) → Fin (tcTables nBuf tb) → BufTy
  | .hbm, ⟨0, _⟩ => ⟨S8x1x5120, .bf16⟩
  | .hbm, ⟨1, _⟩ => ⟨S2560x27648, .i8⟩
  | .hbm, ⟨2, _⟩ => ⟨S40x27648, .bf16⟩
  | .hbm, ⟨3, _⟩ => ⟨S2560x27648, .i32⟩
  | .hbm, ⟨4, _⟩ => ⟨S_, .i32⟩
  | .hbm, ⟨5, _⟩ => ⟨S2560x27648, .i32⟩
  | .hbm, ⟨6, _⟩ => ⟨S2560x27648, .i32⟩
  | .hbm, ⟨7, _⟩ => ⟨S2560x27648, .bf16⟩
  | .hbm, ⟨8, _⟩ => ⟨S_, .bf16⟩
  | .hbm, ⟨9, _⟩ => ⟨S2560x27648, .bf16⟩
  | .hbm, ⟨10, _⟩ => ⟨S2560x27648, .bf16⟩
  | .hbm, ⟨11, _⟩ => ⟨S40x64x27648, .bf16⟩
  | .hbm, ⟨12, _⟩ => ⟨S40x1x27648, .bf16⟩
  | .hbm, ⟨13, _⟩ => ⟨S40x64x27648, .bf16⟩
  | .hbm, ⟨14, _⟩ => ⟨S40x64x27648, .bf16⟩
  | .hbm, ⟨15, _⟩ => ⟨S_, .i32⟩
  | .hbm, ⟨16, _⟩ => ⟨S2560x27648, .i32⟩
  | .hbm, ⟨17, _⟩ => ⟨S2560x27648, .i32⟩
  | .hbm, ⟨18, _⟩ => ⟨S2560x27648, .bf16⟩
  | .hbm, ⟨19, _⟩ => ⟨S_, .bf16⟩
  | .hbm, ⟨20, _⟩ => ⟨S2560x27648, .bf16⟩
  | .hbm, ⟨21, _⟩ => ⟨S2560x27648, .bf16⟩
  | .hbm, ⟨22, _⟩ => ⟨S40x64x27648, .bf16⟩
  | .hbm, ⟨23, _⟩ => ⟨S40x1x27648, .bf16⟩
  | .hbm, ⟨24, _⟩ => ⟨S40x64x27648, .bf16⟩
  | .hbm, ⟨25, _⟩ => ⟨S40x64x27648, .bf16⟩
  | .hbm, ⟨26, _⟩ => ⟨S8x1x2560, .bf16⟩
  | .hbm, ⟨27, _⟩ => ⟨S8x1x40x64, .bf16⟩
  | .hbm, ⟨28, _⟩ => ⟨S8x1x2560, .bf16⟩
  | .hbm, ⟨29, _⟩ => ⟨S8x1x40x64, .bf16⟩
  | .hbm, ⟨30, _⟩ => ⟨S8x1x27648, .f32⟩
  | .hbm, ⟨31, _⟩ => ⟨S8x1x27648, .f32⟩
  | .hbm, ⟨32, _⟩ => ⟨S8x1x27648, .f32⟩
  | .hbm, ⟨33, _⟩ => ⟨S8x1x27648, .bf16⟩
  | _, _ => ⟨S8x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Proof.Body.lean ====
/- What one grid step of the kernel computes: its output block is twenty products of a slice of the activations with
   two dequantised groups of weights, added in order. -/
module

public import proofs.«01_k».proof.Proof.Gen.KernelIdeal.Frame
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]

/-- The bytes of one group of packed weights with the top bit of each nibble flipped, as the kernel flips them on
    thirty-two-bit words: offset codes become two's complement nibbles. -/
def flipped (w : Vec F S64x1024 .i8) : IVec S64x1024 8 :=
  bitcast S64x1024 8
    (xori (bitcast S16x1024 32 w bitcasts_S64x1024_w8_S16x1024_w32) (broadcast S16x1024 2290649224#32))
    bitcasts_S16x1024_w32_S64x1024_w8

/-- The four-bit weights of one group: row `2 b` is the low nibble of byte row `b`, row `2 b + 1` its high nibble. -/
def nibbles (b : IVec S64x1024 8) : IVec S128x1024 4 :=
  trunci 4
    (shapeCast S128x1024
      (concatenate S64x2x1024 1
        [⟨S64x1x1024, shapeCast S64x1x1024 b shapeCasts_S64x1024_S64x1x1024⟩,
         ⟨S64x1x1024, shapeCast S64x1x1024 (shrsi b (broadcast S64x1024 4#8)) shapeCasts_S64x1024_S64x1x1024⟩]
        concatenates_S64x1x1024_S64x1x1024_S64x2x1024_d1)
      shapeCasts_S64x2x1024_S128x1024)
    natLt_4_8

/-- One dequantised group of weights: its nibbles times the group's scales. -/
def dequant (w : Vec F S64x1024 .i8) (s : Vec F S1x1024 .bf16) : FVec F S128x1024 .bf16 :=
  mulf (sitofp .bf16 (nibbles (flipped w))) (broadcastTo S128x1024 s broadcasts_S1x1024_S128x1024)

/-- A slice of the activations times two consecutive dequantised groups. -/
def product (x : Vec F S16x256 .bf16) (w0 : Vec F S64x1024 .i8) (s0 : Vec F S1x1024 .bf16)
    (w1 : Vec F S64x1024 .i8) (s1 : Vec F S1x1024 .bf16) : FVec F S16x1024 .f32 :=
  matmul dot_S16x256_S256x1024_S16x1024_1_0_0_1_n_n none (shapeCast S16x256 x shapeCasts_S16x256_S16x256)
    (concatenate S256x1024 0 [⟨S128x1024, dequant w0 s0⟩, ⟨S128x1024, dequant w1 s1⟩]
      concatenates_S128x1024_S128x1024_S256x1024_d0)
    (constant S16x1024 .f32 0x00000000#32)

/-- The rows of the packed block that hold group `g`. -/
def wRect (g : ℕ) (hg : g < 40) : Rect S2560x1024 :=
  Rect.unit (s := S2560x1024) ![64 * g, 0] S64x1024.size fun a => by
    fin_cases a
    · show 64 * g + 64 ≤ 2560
      omega
    · show 0 + 1024 ≤ 1024
      omega

/-- The row of the scales' block that holds group `g`. -/
def sRect (g : ℕ) (hg : g < 40) : Rect S40x1024 :=
  Rect.unit (s := S40x1024) ![g, 0] S1x1024.size fun a => by
    fin_cases a
    · show g + 1 ≤ 40
      omega
    · show 0 + 1024 ≤ 1024
      omega

/-- The columns of the activations that step `s` reads. -/
def xRect (s : ℕ) (hs : s < 20) : Rect S16x5120 :=
  Rect.unit (s := S16x5120) ![0, 256 * s] S16x256.size fun a => by
    fin_cases a
    · show 0 + 16 ≤ 16
      omega
    · show 256 * s + 256 ≤ 5120
      omega

/-- The product of step `s`: groups `2 s` and `2 s + 1`. -/
def step (x0 : Vec F S16x5120 .bf16) (x1 : Vec F S2560x1024 .i8) (x2 : Vec F S40x1024 .bf16) (s : ℕ) (hs : s < 20) :
    FVec F S16x1024 .f32 :=
  product (View.ld x0 (xRect s hs)) (View.ld x1 (wRect (2 * s) (by omega))) (View.ld x2 (sRect (2 * s) (by omega)))
    (View.ld x1 (wRect (2 * s + 1) (by omega))) (View.ld x2 (sRect (2 * s + 1) (by omega)))

/-- The products of steps `0` to `n`, added in order. -/
def total (x0 : Vec F S16x5120 .bf16) (x1 : Vec F S2560x1024 .i8) (x2 : Vec F S40x1024 .bf16) :
    (n : ℕ) → n < 20 → FVec F S16x1024 .f32
  | 0, h => step x0 x1 x2 0 h
  | n + 1, h => addf (total x0 x1 x2 n (by omega)) (step x0 x1 x2 (n + 1) h)

/-- What the body leaves in the output block: the twenty products added in order, the eight rows of the batch. -/
theorem out_eq (x0 : Vec F S16x5120 .bf16) (x1 : Vec F S2560x1024 .i8) (x2 : Vec F S40x1024 .bf16) :
    out0_3 x0 x1 x2
      = truncf .bf16 (extractStridedSlice S8x1024 ![0, 0] (total x0 x1 x2 19 (by omega)) slices_S16x1024_o0_0_S8x1024)
          bitsLt_bf16_f32 := by
  have hz : (![0, 0] : Fin S8x1024.rank → Nat) = fun _ => 0 := funext fun a => by fin_cases a <;> rfl
  unfold out0_3
  rw [View.canon_unit_zero hz]
  rfl

end Cert.KernelIdeal.Value

end
-- ==== Proof.Dequant.lean ====
/- The kernel's dequantised weights over the extended reals, read at an index. -/
module

public import proofs.«01_k».proof.Proof.Body
public import Idealize.ShloMosaic.Lib.BitcastFour
public import Idealize.ShloMosaic.Lib.Pointwise
public import Idealize.ShloMosaic.Lib.Pointwise.IndexBridge

@[expose] public section

set_option maxRecDepth 16384

noncomputable section

namespace Cert.KernelIdeal.Value

open Cert.KernelIdeal Cert.KernelIdeal.Gen Idealize.ShloMosaic Idealize.ShloMosaic.TcCoe Idealize.SL.Sem

/-- The kernel's mask word, bit by bit: bit `q` is bit `q % 8` of the byte `0x88`. -/
theorem mask_bit (q : ℕ) (hq : q < 32) : (2290649224#32).getLsbD q = (0x88#8).getLsbD (q % 8) := by
  have h : ∀ q : Fin 32, (2290649224#32).getLsbD q = (0x88#8).getLsbD (q.val % 8) := by decide
  exact h ⟨q, hq⟩

/-- Flipping the top bits of the nibbles on packed words flips them on each byte. -/
theorem flipped_apply (w : Vec Ideal S64x1024 .i8) (b : Fin 64) (l : Fin 1024) :
    flipped w (ix2 b l) = w (ix2 b l) ^^^ 0x88#8 := by
  apply BitVec.eq_of_getLsbD_eq
  intro q hq
  have hb := b.isLt
  have hrow : S64x1024.row (ix2 b l) = b.val := rfl
  unfold flipped
  rw [bitcast_getLsbD _ _ _ q hq (by decide)]
  have hsrc : bitcasts_S16x1024_w32_S64x1024_w8.srcIdx (ix2 b l) ((S64x1024.row (ix2 b l) * 8 + q) / 32)
      (fun a ha => (Nat.div_lt_iff_lt_mul (by decide)).2 (bitcasts_S16x1024_w32_S64x1024_w8.pos_lt (ix2 b l) q hq a ha))
      = ValueIdx.ix2 (⟨b.val / 4, by omega⟩ : Fin 16) l := by
    funext c
    match c with
    | ⟨0, _⟩ =>
      apply Fin.ext
      refine (Shape.Bitcasts.srcIdx_row _ _ _ _ ⟨0, Nat.zero_lt_two⟩ rfl).trans ?_
      show (b.val * 8 + q) / 32 = b.val / 4
      omega
    | ⟨1, _⟩ => exact Fin.ext (Shape.Bitcasts.srcIdx_other _ _ _ _ ⟨1, Nat.one_lt_two⟩ (by show ¬ 1 + 2 = 2; omega))
  rw [hsrc]
  show (bitcast S16x1024 32 w bitcasts_S64x1024_w8_S16x1024_w32 (ValueIdx.ix2 _ l) ^^^ 2290649224#32).getLsbD _ = _
  rw [BitVec.getLsbD_xor, BitVec.getLsbD_xor, hrow, mask_bit _ (Nat.mod_lt _ (by decide)),
    bitcast_8_32_getLsbD_ix2 w _ _ l _ (Nat.mod_lt _ (by decide)) b (by show b.val = 4 * (b.val / 4) + _; omega)]
  rw [show (b.val * 8 + q) % 32 % 8 = q by omega]
  rfl

/-- Row `k` of a group's nibbles: the low or the high half of byte row `k / 2`. -/
theorem nibbles_apply (b : IVec S64x1024 8) (k : Fin 128) (l : Fin 1024) :
    nibbles b (ix2 k l)
      = if k.val % 2 < 1 then (b (ix2 ⟨k.val / 2, by omega⟩ l)).setWidth 4
        else ((b (ix2 ⟨k.val / 2, by omega⟩ l)).sshiftRight 4).setWidth 4 := by
  unfold nibbles
  pointwise
  split <;> rfl

/-- The value of the low code of a byte: its low nibble less eight. -/
def lowCode (b : BitVec 8) : EReal := (((b &&& 0xF#8).toNat : ℝ) : EReal) - 8
/-- The value of the high code of a byte: its high nibble less eight. -/
def highCode (b : BitVec 8) : EReal := (((b >>> 4).toNat : ℝ) : EReal) - 8

/-- A byte's flipped low nibble, read in two's complement, is the low nibble less eight. -/
theorem low_toInt : ∀ b : BitVec 8, ((b ^^^ 0x88#8).setWidth 4).toInt = ((b &&& 0xF#8).toNat : ℤ) - 8 := by decide

/-- A byte's flipped high nibble, read in two's complement, is the high nibble less eight. -/
theorem high_toInt : ∀ b : BitVec 8,
    (((b ^^^ 0x88#8).sshiftRight 4).setWidth 4).toInt = ((b >>> 4).toNat : ℤ) - 8 := by decide

/-- The code in row `k` of a group: the low nibble of byte row `k / 2` for even `k`, the high one for odd. -/
def code (w : Vec Ideal S64x1024 .i8) (k : Fin 128) (l : Fin 1024) : EReal :=
  if k.val % 2 < 1 then lowCode (w (ix2 ⟨k.val / 2, by omega⟩ l)) else highCode (w (ix2 ⟨k.val / 2, by omega⟩ l))

/-- A dequantised weight is its code times its group's scale. -/
theorem dequant_apply (w : Vec Ideal S64x1024 .i8) (s : Vec Ideal S1x1024 .bf16) (k : Fin 128) (l : Fin 1024) :
    dequant (F := Ideal) w s (ix2 k l) = code w k l * s (ix2 0 l) := by
  unfold dequant code lowCode highCode
  pointwise
  rw [nibbles_apply, flipped_apply]
  congr 1
  split
  · show ((BitVec.toInt (BitVec.setWidth 4 (w (ix2 ⟨k.val / 2, by omega⟩ l) ^^^ 0x88#8)) : ℝ) : EReal) = _
    rw [low_toInt]
    push_cast
    rfl
  · show ((BitVec.toInt (BitVec.setWidth 4 (BitVec.sshiftRight (w (ix2 ⟨k.val / 2, by omega⟩ l) ^^^ 0x88#8) 4)) : ℝ) : EReal) = _
    rw [high_toInt]
    push_cast
    rfl

/-- A sum over 128 rows is the sum over 64 pairs of rows. -/
theorem sum_pairs (f : Fin 128 → EReal) :
    ∑ k, f k = ∑ b : Fin 64, (f ⟨2 * b.val, by omega⟩ + f ⟨2 * b.val + 1, by omega⟩) := by
  rw [← Equiv.sum_comp (finProdFinEquiv (m := 64) (n := 2)) f, Fintype.sum_prod_type]
  refine Finset.sum_congr rfl fun b _ => ?_
  rw [Fin.sum_univ_two]
  congr 1 <;> congr 1 <;> apply Fin.ext <;> simp [finProdFinEquiv] <;> omega

/-- The part of a group in a product: its pairs of codes times the scale, with the activations of those rows. -/
def pairs (x : Fin 128 → EReal) (w : Vec Ideal S64x1024 .i8) (s : EReal) (l : Fin 1024) : EReal :=
  ∑ b : Fin 64, (x ⟨2 * b.val, by omega⟩ * (lowCode (w (ix2 b l)) * s)
    + x ⟨2 * b.val + 1, by omega⟩ * (highCode (w (ix2 b l)) * s))

/-- A column of a dequantised group against activations, pair by pair. -/
theorem sum_dequant (x : Fin 128 → EReal) (w : Vec Ideal S64x1024 .i8) (s : Vec Ideal S1x1024 .bf16) (l : Fin 1024) :
    ∑ k : Fin 128, x k * dequant (F := Ideal) w s (ix2 k l) = pairs x w (s (ix2 0 l)) l := by
  rw [sum_pairs]
  unfold pairs
  refine Finset.sum_congr rfl fun b _ => ?_
  rw [dequant_apply, dequant_apply]
  have h0 : code w ⟨2 * b.val, by omega⟩ l = lowCode (w (ix2 b l)) := by
    unfold code
    rw [if_pos (show 2 * b.val % 2 < 1 by omega)]
    congr 3
    exact Fin.ext (show 2 * b.val / 2 = b.val by omega)
  have h1 : code w ⟨2 * b.val + 1, by omega⟩ l = highCode (w (ix2 b l)) := by
    unfold code
    rw [if_neg (show ¬ (2 * b.val + 1) % 2 < 1 by omega)]
    congr 3
    exact Fin.ext (show (2 * b.val + 1) / 2 = b.val by omega)
  rw [h0, h1]

/-- A slice of the activations times two groups: the first group's part plus the second's. -/
theorem product_apply (x : Vec Ideal S16x256 .bf16) (w0 : Vec Ideal S64x1024 .i8) (s0 : Vec Ideal S1x1024 .bf16)
    (w1 : Vec Ideal S64x1024 .i8) (s1 : Vec Ideal S1x1024 .bf16) (i : Fin 16) (l : Fin 1024) :
    product (F := Ideal) x w0 s0 w1 s1 (ix2 i l)
      = pairs (fun k => x (ix2 i ⟨k.val, by omega⟩)) w0 (s0 (ix2 0 l)) l
        + pairs (fun k => x (ix2 i ⟨128 + k.val, by omega⟩)) w1 (s1 (ix2 0 l)) l := by
  unfold product
  pointwise
  rw [← sum_dequant, ← sum_dequant]

/-- Group `g` of a block of weights against row `i` of the activations. -/
def group (x0 : Vec Ideal S16x5120 .bf16) (x1 : Vec Ideal S2560x1024 .i8) (x2 : Vec Ideal S40x1024 .bf16)
    (i : Fin 16) (l : Fin 1024) (g : Fin 40) : EReal :=
  ∑ b : Fin 64,
    (x0 (ix2 i ⟨128 * g.val + 2 * b.val, by omega⟩) * (lowCode (x1 (ix2 ⟨64 * g.val + b.val, by omega⟩ l)) * x2 (ix2 g l))
      + x0 (ix2 i ⟨128 * g.val + 2 * b.val + 1, by omega⟩)
        * (highCode (x1 (ix2 ⟨64 * g.val + b.val, by omega⟩ l)) * x2 (ix2 g l)))

/-- A read of a group's byte rows. -/
theorem ld_w (x1 : Vec Ideal S2560x1024 .i8) (g : ℕ) (hg : g < 40) (b : Fin 64) (l : Fin 1024) :
    View.ld x1 (wRect g hg) (ix2 b l) = x1 (ix2 ⟨64 * g + b.val, by omega⟩ l) := by
  show x1 _ = x1 _
  congr 1
  funext a
  match a with
  | ⟨0, _⟩ => exact Fin.ext (show 64 * g + 1 * b.val = 64 * g + b.val by omega)
  | ⟨1, _⟩ => exact Fin.ext (show 0 + 1 * l.val = l.val by omega)

/-- A read of a group's scales. -/
theorem ld_s (x2 : Vec Ideal S40x1024 .bf16) (g : ℕ) (hg : g < 40) (l : Fin 1024) :
    View.ld x2 (sRect g hg) (ix2 0 l) = x2 (ix2 ⟨g, hg⟩ l) := by
  show x2 _ = x2 _
  congr 1
  funext a
  match a with
  | ⟨0, _⟩ => exact Fin.ext (show g + 1 * 0 = g by omega)
  | ⟨1, _⟩ => exact Fin.ext (show 0 + 1 * l.val = l.val by omega)

/-- A read of a step's activations. -/
theorem ld_x (x0 : Vec Ideal S16x5120 .bf16) (s : ℕ) (hs : s < 20) (i : Fin 16) (k : Fin 256) :
    View.ld x0 (xRect s hs) (ix2 i k) = x0 (ix2 i ⟨256 * s + k.val, by omega⟩) := by
  show x0 _ = x0 _
  congr 1
  funext a
  match a with
  | ⟨0, _⟩ => exact Fin.ext (show 0 + 1 * i.val = i.val by omega)
  | ⟨1, _⟩ => exact Fin.ext (show 256 * s + 1 * k.val = 256 * s + k.val by omega)

/-- A step is the sum of its two groups. -/
theorem step_apply (x0 : Vec Ideal S16x5120 .bf16) (x1 : Vec Ideal S2560x1024 .i8) (x2 : Vec Ideal S40x1024 .bf16)
    (s : ℕ) (hs : s < 20) (i : Fin 16) (l : Fin 1024) :
    step x0 x1 x2 s hs (ix2 i l)
      = group x0 x1 x2 i l ⟨2 * s, by omega⟩ + group x0 x1 x2 i l ⟨2 * s + 1, by omega⟩ := by
  refine (product_apply (View.ld x0 (xRect s hs)) (View.ld x1 (wRect (2 * s) (by omega)))
    (View.ld x2 (sRect (2 * s) (by omega))) (View.ld x1 (wRect (2 * s + 1) (by omega)))
    (View.ld x2 (sRect (2 * s + 1) (by omega))) i l).trans ?_
  rw [ld_s, ld_s]
  unfold pairs group
  congr 1 <;> refine Finset.sum_congr rfl fun b _ => ?_ <;> beta_reduce <;> rw [ld_x, ld_x, ld_w] <;>
    refine congrArg₂ (· + ·) (congrArg₂ (· * ·) (congrArg x0 (congrArg (ix2 i) (Fin.ext ?_))) rfl)
      (congrArg₂ (· * ·) (congrArg x0 (congrArg (ix2 i) (Fin.ext ?_))) rfl) <;> dsimp only <;> omega

/-- The products of steps `0` to `n` are the sum of the groups below `2 (n + 1)`. -/
theorem total_apply (x0 : Vec Ideal S16x5120 .bf16) (x1 : Vec Ideal S2560x1024 .i8) (x2 : Vec Ideal S40x1024 .bf16)
    (n : ℕ) (hn : n < 20) (i : Fin 16) (l : Fin 1024) :
    total x0 x1 x2 n hn (ix2 i l)
      = ∑ g : Fin (2 * n + 1 + 1), group x0 x1 x2 i l ⟨g.val, by omega⟩ := by
  induction n with
  | zero =>
    show step x0 x1 x2 0 hn (ix2 i l) = _
    rw [step_apply]
    exact (Fin.sum_univ_two (fun g : Fin 2 => group x0 x1 x2 i l ⟨g.val, by omega⟩)).symm
  | succ n ih =>
    show total x0 x1 x2 n (by omega) (ix2 i l) + step x0 x1 x2 (n + 1) hn (ix2 i l) = _
    rw [ih (by omega), step_apply, ← add_assoc]
    symm
    refine (Fin.sum_univ_castSucc (n := 2 * (n + 1) + 1) _).trans ?_
    refine congrArg₂ (· + ·) ?_ rfl
    exact Fin.sum_univ_castSucc (n := 2 * (n + 1)) (fun g => group x0 x1 x2 i l ⟨g.val, by omega⟩)

/-- The block a grid step writes, at an index: the sum of all forty groups. -/
theorem out_apply (x0 : Vec Ideal S16x5120 .bf16) (x1 : Vec Ideal S2560x1024 .i8) (x2 : Vec Ideal S40x1024 .bf16)
    (i : Fin 8) (l : Fin 1024) :
    out0_3 x0 x1 x2 (ix2 i l) = ∑ g : Fin 40, group x0 x1 x2 ⟨i.val, by omega⟩ l g := by
  rw [out_eq]
  pointwise
  exact total_apply x0 x1 x2 19 (by omega) _ l

end Cert.KernelIdeal.Value

end
-- ==== Proof.Array.lean ====
/- The kernel's result array: every entry is the sum, over the forty groups and the sixty-four byte rows of a group, of
   the two products of that byte's codes. -/
module

public import proofs.«01_k».proof.Proof.Dequant
public import Idealize.ShloMosaic.Lib.StableHlo.Run
public import Idealize.ShloMosaic.Lib.Claim

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Entry `(i, n)` of the result: the sum over the groups `g` and the byte rows `b` of a group. -/
def entry (a0 : Vec Ideal S8x1x5120 .bf16) (a1 : Vec Ideal S2560x27648 .i8) (a2 : Vec Ideal S40x27648 .bf16)
    (i : Fin 8) (n : Fin 27648) : EReal :=
  ∑ g : Fin 40, ∑ b : Fin 64,
    (a0 (ix3 i 0 ⟨128 * g.val + 2 * b.val, by omega⟩) * (lowCode (a1 (ix2 ⟨64 * g.val + b.val, by omega⟩ n)) * a2 (ix2 g n))
      + a0 (ix3 i 0 ⟨128 * g.val + 2 * b.val + 1, by omega⟩)
        * (highCode (a1 (ix2 ⟨64 * g.val + b.val, by omega⟩ n)) * a2 (ix2 g n)))

/-- The sums as the array of two axes that the grid writes. -/
def entries (a0 : Vec Ideal S8x1x5120 .bf16) (a1 : Vec Ideal S2560x27648 .i8) (a2 : Vec Ideal S40x27648 .bf16) :
    Vec Ideal S8x27648 .bf16 :=
  fun j => entry a0 a1 a2 (j 0) (j 1)

/-- The sums as the kernel's result, with a middle axis of extent one. -/
def result (a0 : Vec Ideal S8x1x5120 .bf16) (a1 : Vec Ideal S2560x27648 .i8) (a2 : Vec Ideal S40x27648 .bf16) :
    Vec Ideal S8x1x27648 .bf16 :=
  fun j => entry a0 a1 a2 (j 0) (j 2)

/-- The reshape of the one is the other. -/
theorem unsqueeze (a0 : Vec Ideal S8x1x5120 .bf16) (a1 : Vec Ideal S2560x27648 .i8) (a2 : Vec Ideal S40x27648 .bf16) :
    shapeCast S8x1x27648 (entries a0 a1 a2) shapeCasts_S8x27648_S8x1x27648 = result a0 a1 a2 := by
  funext j
  idx_vars j
  pointwise
  rfl

/-- The activations as the grid finds them: the eight rows of the batch, then eight rows of padding. -/
theorem V_main_v1 (c : Dev nD) : V m c main_v1
    = pad S16x5120 ![0, 0] ![8, 0] ![0, 0]
        (shapeCast S8x5120 (m ((c : Thread nD τ).loc main_arg0) : Vec Ideal S8x1x5120 .bf16) shapeCasts_S8x1x5120_S8x5120)
        (sitofp .bf16 (constantI S_ 32 0#32) : FVec Ideal S_ .bf16) pads_S8x5120_S16x5120_080_000 h_S_ := by
  entry_read
  rfl

/-- A padded array at a row of the original is the original there. -/
theorem pad_rows (x : Vec Ideal S8x5120 .bf16) (v : Vec Ideal S_ .bf16) (i : Fin 8) (k : Fin 5120) :
    pad S16x5120 ![0, 0] ![8, 0] ![0, 0] x v pads_S8x5120_S16x5120_080_000 h_S_ (ix2 (⟨i.val, by omega⟩ : Fin 16) k)
      = x (ix2 i k) := by
  pointwise

/-- The batch without its middle axis of extent one. -/
theorem squeeze (x : Vec Ideal S8x1x5120 .bf16) (i : Fin 8) (k : Fin 5120) :
    shapeCast S8x5120 x shapeCasts_S8x1x5120_S8x5120 (ix2 i k) = x (ix3 i 0 k) := by
  pointwise

/-- Row `i` of the padded activations is row `i` of the batch. -/
theorem V_main_v1_apply (c : Dev nD) (i : Fin 8) (k : Fin 5120) :
    V m c main_v1 (ix2 (⟨i.val, by omega⟩ : Fin 16) k) = m ((c : Thread nD τ).loc main_arg0) (ix3 i 0 k) := by
  rw [V_main_v1]
  exact (pad_rows _ _ i k).trans (squeeze _ i k)

/-- Which block each window reads at a grid point. -/
theorem index : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- The activations' block is the padded array, at every point. -/
theorem x_block (c : Dev nD) (t : Fin cfg0.N) (i : Fin 8) (k : Fin 5120) :
    iblk m c 0 t (ix2 (⟨i.val, by omega⟩ : Fin 16) k) = m ((c : Thread nD τ).loc main_arg0) (ix3 i 0 k) := by
  rw [← V_main_v1_apply m c i k]
  blk_ext! [iblk, index t]

/-- The packed weights' block at point `t` holds columns `1024 t` onward. -/
theorem w_block (c : Dev nD) (t : Fin cfg0.N) (r : Fin 2560) (l : Fin 1024) (n : Fin 27648)
    (hn : n.val = t.val * 1024 + l.val) :
    iblk m c 1 t (ix2 r l) = m ((c : Thread nD τ).loc main_arg1) (ix2 r n) := by
  rw [← V_main_arg1 m c]
  blk_ext! [iblk, index t]

/-- The scales' block at point `t` holds columns `1024 t` onward. -/
theorem s_block (c : Dev nD) (t : Fin cfg0.N) (g : Fin 40) (l : Fin 1024) (n : Fin 27648)
    (hn : n.val = t.val * 1024 + l.val) :
    iblk m c 2 t (ix2 g l) = m ((c : Thread nD τ).loc main_arg2) (ix2 g n) := by
  rw [← V_main_arg2 m c]
  blk_ext! [iblk, index t]

/-- What a grid step writes is its columns of the sums. -/
theorem block_eq (c : Dev nD) (t : Fin cfg0.N) (i : Fin 8) (l : Fin 1024) (n : Fin 27648)
    (hn : n.val = t.val * 1024 + l.val) :
    out0_3 (iblk m c 0 t) (iblk m c 1 t) (iblk m c 2 t) (ix2 i l)
      = entry (m ((c : Thread nD τ).loc main_arg0)) (m ((c : Thread nD τ).loc main_arg1))
          (m ((c : Thread nD τ).loc main_arg2)) i n := by
  refine (out_apply (iblk m c 0 t) (iblk m c 1 t) (iblk m c 2 t) i l).trans ?_
  unfold group entry
  refine Finset.sum_congr rfl fun g _ => Finset.sum_congr rfl fun b _ => ?_
  exact congrArg₂ (· + ·)
    (congrArg₂ (· * ·) (x_block m c t i _)
      (congrArg₂ (· * ·) (congrArg lowCode (w_block m c t _ l n hn)) (s_block m c t g l n hn)))
    (congrArg₂ (· * ·) (x_block m c t i _)
      (congrArg₂ (· * ·) (congrArg highCode (w_block m c t _ l n hn)) (s_block m c t g l n hn)))

/-- The array the grid writes: every entry is its sum. -/
theorem final (c : Dev nD) : (dats m 0 c).arrAt 3 cfg0.N
    = entries (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  have e0 : (((View.whole main_v2).slice (win0_3.rect t)).emb (ix2 y0 y1) 0) = y0 := Fin.ext (by
    blk_simp [index t])
  refine (block_eq m c t y0 y1 (((View.whole main_v2).slice (win0_3.rect t)).emb (ix2 y0 y1) 1) (by blk_simp [index t])).trans ?_
  exact congrArg (fun i => entry _ _ _ i _) e0.symm

/-- The host line after the grid reshapes the grid's array. -/
theorem tail_eq (σ : Valuation τ sig (Elt Ideal)) :
    StableHlo.after (List.flatten [hostOps1]) σ (Proc.devRef .tc main_v3)
      = shapeCast S8x1x27648 (σ (Proc.devRef .tc main_v2) : Vec Ideal S8x27648 .bf16) shapeCasts_S8x27648_S8x1x27648 := rfl

/-- The result after the host's reshape. -/
theorem tail_result (c : Dev nD) :
    Pipeline.afterTail₀ cfgs (dats m) 0 (V0 m) [hostOps1] c main_v3
      = result (m ((c : Thread nD τ).loc main_arg0)) (m ((c : Thread nD τ).loc main_arg1)) (m ((c : Thread nD τ).loc main_arg2)) := by
  unfold Pipeline.afterTail₀
  refine (tail_eq _).trans ((congrArg (fun a => shapeCast S8x1x27648 a shapeCasts_S8x27648_S8x1x27648)
    ((Pipeline.withArrays_arr spec0 (by decide) c (V0 m c) (fun w => (dats m 0 c).arrAt w cfg0.N) 3).trans (final m c))).trans ?_)
  exact unsqueeze _ _ _

/-- The run: the result holds the sums and the arguments end unchanged. -/
theorem run : θ_run defs (onTc (τ := τ) (main (F := Ideal))) ⟨m, fun _ => 0, ρ⟩ fun r => ∀ c : Dev nD,
      r.2.mem ((c.tc : Thread nD τ).loc main_v3)
        = result (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).2 main_v3 (Pipeline.mem_restRefs_of main_v3 (by decide) (by decide))).trans
    (tail_result m c), h.2 c⟩) (θ_run_and (run_main m ρ) (unchanged m ρ))

end Cert.KernelIdeal.Value

end
-- ==== Proof.Reference.lean ====
/- The reference's result: the same sums, the even and the odd products in two sums. -/
module

public import proofs.«01_k».proof.Proof.Array
public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.KernelIdeal.Value (entry lowCode highCode)

/-- The constant eight of the reference. -/
theorem eight : Ideal.ofBits .bf16 0x4100#16 = 8 := by
  rw [show (8 : EReal) = ((8 : ℝ) : EReal) by norm_cast]
  simp [Ideal.ofBits, Ideal.ieee, -EReal.coe_mul]
  norm_num

/-- The low nibble the reference reads from a byte. -/
theorem low_nat : ∀ b : BitVec 8, (b.setWidth 32 &&& 15#32).toInt = ((b &&& 0xF#8).toNat : ℤ) := by decide

/-- The high nibble the reference reads from a byte. -/
theorem high_nat : ∀ b : BitVec 8, ((b.setWidth 32).sshiftRight 4).toInt = ((b >>> 4).toNat : ℤ) := by decide

/-- A low code: the nibble as the reference converts it, less eight. -/
theorem low_code (b : BitVec 8) :
    (FloatOps.sitofp (F := Ideal) .bf16 (IntOp.andi (b.setWidth 32) 15#32) - Ideal.ofBits .bf16 0x4100#16 : EReal) = lowCode b := by
  rw [eight]
  show (((b.setWidth 32 &&& 15#32).toInt : ℝ) : EReal) - 8 = _
  rw [low_nat]
  rfl

/-- A high code: the nibble as the reference shifts and converts it, less eight. -/
theorem high_code (b : BitVec 8) :
    (FloatOps.sitofp (F := Ideal) .bf16 (IntOp.shrsi .host (b.setWidth 32) 4#32) - Ideal.ofBits .bf16 0x4100#16 : EReal)
      = highCode b := by
  rw [eight]
  show ((((b.setWidth 32).sshiftRight 4).toInt : ℝ) : EReal) - 8 = _
  rw [high_nat]
  rfl

/-- A parity's codes, times the groups' scales. -/
def weights (q : FVec Ideal S2560x27648 .bf16) (a2 : Vec Ideal S40x27648 .bf16) : FVec Ideal S40x64x27648 .bf16 :=
  mulf
    (shapeCast S40x64x27648
      (subf q (broadcastInDim S2560x27648 ![] bcast_S_S2560x27648 (constant (F := Ideal) S_ .bf16 0x4100#16)))
      shapeCasts_S2560x27648_S40x64x27648)
    (broadcastInDim S40x64x27648 ![0, 1, 2] bcast_S40x1x27648_S40x64x27648_0_1_2
      (broadcastInDim S40x1x27648 ![0, 2] bcast_S40x27648_S40x1x27648_0_2 a2))

/-- The even activations times the low codes' weights. -/
def evens (a0 : Vec Ideal S8x1x5120 .bf16) (a1 : Vec Ideal S2560x27648 .i8) (a2 : Vec Ideal S40x27648 .bf16) :
    FVec Ideal S8x1x27648 .f32 :=
  Host.dotGeneral (φ₁ := .bf16) (φ₂ := .bf16) dot_S8x1x40x64_S40x64x27648_S8x1x27648_23_01_01_2_n_n none
    (shapeCast S8x1x40x64 (Host.slice S8x1x2560 ![0, 0, 0] ![1, 1, 2] a0 slicesBy_S8x1x5120_S8x1x2560_0s1_0s1_0s2)
      shapeCasts_S8x1x2560_S8x1x40x64)
    (weights
      (sitofp (F := Ideal) .bf16
        (andi (extui 32 a1 natLt_8_32) (broadcastInDim S2560x27648 ![] bcast_S_S2560x27648 (constantI S_ 32 15#32))))
      a2)

/-- The odd activations times the high codes' weights. -/
def odds (a0 : Vec Ideal S8x1x5120 .bf16) (a1 : Vec Ideal S2560x27648 .i8) (a2 : Vec Ideal S40x27648 .bf16) :
    FVec Ideal S8x1x27648 .f32 :=
  Host.dotGeneral (φ₁ := .bf16) (φ₂ := .bf16) dot_S8x1x40x64_S40x64x27648_S8x1x27648_23_01_01_2_n_n none
    (shapeCast S8x1x40x64 (Host.slice S8x1x2560 ![0, 0, 1] ![1, 1, 2] a0 slicesBy_S8x1x5120_S8x1x2560_0s1_0s1_1s2)
      shapeCasts_S8x1x2560_S8x1x40x64)
    (weights
      (sitofp (F := Ideal) .bf16
        (Host.shrsi (extui 32 a1 natLt_8_32) (broadcastInDim S2560x27648 ![] bcast_S_S2560x27648 (constantI S_ 32 4#32))))
      a2)

/-- The even products as a sum over groups and byte rows. -/
theorem evens_apply (a0 : Vec Ideal S8x1x5120 .bf16) (a1 : Vec Ideal S2560x27648 .i8) (a2 : Vec Ideal S40x27648 .bf16)
    (i : Fin 8) (n : Fin 27648) :
    evens a0 a1 a2 (ix3 i 0 n)
      = ∑ g : Fin 40, ∑ b : Fin 64, a0 (ix3 i 0 ⟨128 * g.val + 2 * b.val, by omega⟩)
        * (lowCode (a1 (ix2 ⟨64 * g.val + b.val, by omega⟩ n)) * a2 (ix2 g n)) := by
  pointwise [evens, weights]
  refine Finset.sum_congr rfl fun g _ => Finset.sum_congr rfl fun b _ => ?_
  rw [low_code]
  exact congrArg₂ (· * ·) (congrArg (fun k => a0 (ix3 i 0 k)) (Fin.ext (by dsimp only; omega)))
    (congrArg₂ (· * ·) (congrArg (fun r => lowCode (a1 (ix2 r n))) (Fin.ext (by dsimp only; omega))) rfl)

/-- The odd products as a sum over groups and byte rows. -/
theorem odds_apply (a0 : Vec Ideal S8x1x5120 .bf16) (a1 : Vec Ideal S2560x27648 .i8) (a2 : Vec Ideal S40x27648 .bf16)
    (i : Fin 8) (n : Fin 27648) :
    odds a0 a1 a2 (ix3 i 0 n)
      = ∑ g : Fin 40, ∑ b : Fin 64, a0 (ix3 i 0 ⟨128 * g.val + 2 * b.val + 1, by omega⟩)
        * (highCode (a1 (ix2 ⟨64 * g.val + b.val, by omega⟩ n)) * a2 (ix2 g n)) := by
  pointwise [odds, weights]
  refine Finset.sum_congr rfl fun g _ => Finset.sum_congr rfl fun b _ => ?_
  rw [high_code]
  exact congrArg₂ (· * ·) (congrArg (fun k => a0 (ix3 i 0 k)) (Fin.ext (by dsimp only; omega)))
    (congrArg₂ (· * ·) (congrArg (fun r => highCode (a1 (ix2 r n))) (Fin.ext (by dsimp only; omega))) rfl)

/-- The reference's result is the kernel's: the sum of the pairs is the sum of the evens plus the sum of the odds. -/
theorem value_eq (a0 : Vec Ideal S8x1x5120 .bf16) (a1 : Vec Ideal S2560x27648 .i8) (a2 : Vec Ideal S40x27648 .bf16) :
    truncf .bf16 (addf (evens a0 a1 a2) (odds a0 a1 a2)) bitsLt_bf16_f32 = Cert.KernelIdeal.Value.result a0 a1 a2 := by
  funext j
  idx_vars j
  obtain rfl : j1 = 0 := Subsingleton.elim _ _
  show evens a0 a1 a2 (ix3 j0 0 j2) + odds a0 a1 a2 (ix3 j0 0 j2) = entry a0 a1 a2 j0 j2
  rw [evens_apply, odds_apply]
  unfold entry
  simp only [Finset.sum_add_distrib]

end Cert.ReferenceIdeal.Value

end
-- ==== Proof.lean ====
/- The claims of this directory, proved: the kernel, its idealization and the reference each run, leave their arguments
   unchanged and every semaphore counter at zero; the idealization is the kernel's own text; and over the extended reals
   the kernel and the reference end with equal results.
   `Body` reads what one grid step computes, `Dequant` its value at an index, `Array` the kernel's result after the whole
   run, and `Reference` the reference's result and its equality with the kernel's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Reference
public import Idealize.ShloMosaic.Lib.Claim
public import Idealize.ShloMosaic.Lib.StableHlo.RunHlo
public import Idealize.ShloMosaic.Adequacy
public import Idealize.ShloMosaic.Init

@[expose] public section

noncomputable section

namespace Cert.Proof

open Idealize.ShloMosaic Idealize.SL.Sem

/-- The reference runs, leaves its arguments unchanged and every semaphore counter at zero. -/
theorem frame_reference : Cert.quiescent_ReferenceIdeal (hReferenceIdeal := Cert.ReferenceIdeal.Gen.facts) :=
  fun m g _ => θ_run_mono (Cert.ReferenceIdeal.Value.run m g) fun r h =>
    ⟨fun c => (h c).2, sem_eq_zero_of_no_sems (by decide) r.2⟩

/-- From equal arguments the kernel and the reference end with equal results, over the extended reals. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨_, Cert.KernelIdeal.Value.run m g, θ_run_mono (Cert.ReferenceIdeal.Value.run m' g') fun r h c => ⟨(h c).1.trans ?_, (h c).2⟩⟩
  rw [(hagree c).1, (hagree c).2.1, (hagree c).2.2]
  exact Cert.ReferenceIdeal.Value.value_eq _ _ _

/-- Every claim: the three frames, the idealization, and equal results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
